-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_PolynomialIdeal (m : (ℓ : Loc Cert.PolynomialIdeal.nD Cert.PolynomialIdeal.τ Cert.PolynomialIdeal.sig) → Buf (Elt Ideal) ℓ) : Prop :=
  True

def Pre_Exact (m : (ℓ : Loc Cert.Exact.nD Cert.Exact.τ Cert.Exact.sig) → Buf (Elt Bits) ℓ) : Prop :=
  True

def Pre_ExactIdeal (m : (ℓ : Loc Cert.ExactIdeal.nD Cert.ExactIdeal.τ Cert.ExactIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_PolynomialIdeal [hPolynomialIdeal : Cert.PolynomialIdeal.Facts] : Prop :=
  ∀ (m : (ℓ : Loc Cert.PolynomialIdeal.nD Cert.PolynomialIdeal.τ Cert.PolynomialIdeal.sig) → Buf (Elt Ideal) ℓ) (g : Dev Cert.PolynomialIdeal.nD → PrngReg), Pre_PolynomialIdeal m →
    θ_run (Cert.PolynomialIdeal.defs (F := Ideal)) (onTc (τ := Cert.PolynomialIdeal.τ) (Cert.PolynomialIdeal.main (F := Ideal))) ⟨m, fun _ => 0, g⟩ (fun r => (∀ c : Dev Cert.PolynomialIdeal.nD,
      r.2.mem ((c.tc : Thread Cert.PolynomialIdeal.nD Cert.PolynomialIdeal.τ).loc Cert.PolynomialIdeal.main_arg0) = m ((c.tc : Thread Cert.PolynomialIdeal.nD Cert.PolynomialIdeal.τ).loc Cert.PolynomialIdeal.main_arg0)
      ∧ r.2.mem ((c.tc : Thread Cert.PolynomialIdeal.nD Cert.PolynomialIdeal.τ).loc Cert.PolynomialIdeal.main_arg1) = m ((c.tc : Thread Cert.PolynomialIdeal.nD Cert.PolynomialIdeal.τ).loc Cert.PolynomialIdeal.main_arg1)
      ∧ r.2.mem ((c.tc : Thread Cert.PolynomialIdeal.nD Cert.PolynomialIdeal.τ).loc Cert.PolynomialIdeal.main_arg2) = m ((c.tc : Thread Cert.PolynomialIdeal.nD Cert.PolynomialIdeal.τ).loc Cert.PolynomialIdeal.main_arg2)
      ∧ r.2.mem ((c.tc : Thread Cert.PolynomialIdeal.nD Cert.PolynomialIdeal.τ).loc Cert.PolynomialIdeal.main_arg3) = m ((c.tc : Thread Cert.PolynomialIdeal.nD Cert.PolynomialIdeal.τ).loc Cert.PolynomialIdeal.main_arg3)
      ∧ r.2.mem ((c.tc : Thread Cert.PolynomialIdeal.nD Cert.PolynomialIdeal.τ).loc Cert.PolynomialIdeal.main_arg4) = m ((c.tc : Thread Cert.PolynomialIdeal.nD Cert.PolynomialIdeal.τ).loc Cert.PolynomialIdeal.main_arg4))
      ∧ r.2.sem = fun _ => 0)

def quiescent_Exact [hExact : Cert.Exact.Facts] : Prop :=
  ∀ (m : (ℓ : Loc Cert.Exact.nD Cert.Exact.τ Cert.Exact.sig) → Buf (Elt Bits) ℓ) (g : Dev Cert.Exact.nD → PrngReg), Pre_Exact m →
    θ_run (Cert.Exact.defs (F := Bits)) (onTc (τ := Cert.Exact.τ) (Cert.Exact.main (F := Bits))) ⟨m, fun _ => 0, g⟩ (fun r => (∀ c : Dev Cert.Exact.nD,
      r.2.mem ((c.tc : Thread Cert.Exact.nD Cert.Exact.τ).loc Cert.Exact.main_arg0) = m ((c.tc : Thread Cert.Exact.nD Cert.Exact.τ).loc Cert.Exact.main_arg0)
      ∧ r.2.mem ((c.tc : Thread Cert.Exact.nD Cert.Exact.τ).loc Cert.Exact.main_arg1) = m ((c.tc : Thread Cert.Exact.nD Cert.Exact.τ).loc Cert.Exact.main_arg1)
      ∧ r.2.mem ((c.tc : Thread Cert.Exact.nD Cert.Exact.τ).loc Cert.Exact.main_arg2) = m ((c.tc : Thread Cert.Exact.nD Cert.Exact.τ).loc Cert.Exact.main_arg2)
      ∧ r.2.mem ((c.tc : Thread Cert.Exact.nD Cert.Exact.τ).loc Cert.Exact.main_arg3) = m ((c.tc : Thread Cert.Exact.nD Cert.Exact.τ).loc Cert.Exact.main_arg3)
      ∧ r.2.mem ((c.tc : Thread Cert.Exact.nD Cert.Exact.τ).loc Cert.Exact.main_arg4) = m ((c.tc : Thread Cert.Exact.nD Cert.Exact.τ).loc Cert.Exact.main_arg4))
      ∧ r.2.sem = fun _ => 0)

def quiescent_ExactIdeal [hExactIdeal : Cert.ExactIdeal.Facts] : Prop :=
  ∀ (m : (ℓ : Loc Cert.ExactIdeal.nD Cert.ExactIdeal.τ Cert.ExactIdeal.sig) → Buf (Elt Ideal) ℓ) (g : Dev Cert.ExactIdeal.nD → PrngReg), Pre_ExactIdeal m →
    θ_run (Cert.ExactIdeal.defs (F := Ideal)) (onTc (τ := Cert.ExactIdeal.τ) (Cert.ExactIdeal.main (F := Ideal))) ⟨m, fun _ => 0, g⟩ (fun r => (∀ c : Dev Cert.ExactIdeal.nD,
      r.2.mem ((c.tc : Thread Cert.ExactIdeal.nD Cert.ExactIdeal.τ).loc Cert.ExactIdeal.main_arg0) = m ((c.tc : Thread Cert.ExactIdeal.nD Cert.ExactIdeal.τ).loc Cert.ExactIdeal.main_arg0)
      ∧ r.2.mem ((c.tc : Thread Cert.ExactIdeal.nD Cert.ExactIdeal.τ).loc Cert.ExactIdeal.main_arg1) = m ((c.tc : Thread Cert.ExactIdeal.nD Cert.ExactIdeal.τ).loc Cert.ExactIdeal.main_arg1)
      ∧ r.2.mem ((c.tc : Thread Cert.ExactIdeal.nD Cert.ExactIdeal.τ).loc Cert.ExactIdeal.main_arg2) = m ((c.tc : Thread Cert.ExactIdeal.nD Cert.ExactIdeal.τ).loc Cert.ExactIdeal.main_arg2)
      ∧ r.2.mem ((c.tc : Thread Cert.ExactIdeal.nD Cert.ExactIdeal.τ).loc Cert.ExactIdeal.main_arg3) = m ((c.tc : Thread Cert.ExactIdeal.nD Cert.ExactIdeal.τ).loc Cert.ExactIdeal.main_arg3)
      ∧ r.2.mem ((c.tc : Thread Cert.ExactIdeal.nD Cert.ExactIdeal.τ).loc Cert.ExactIdeal.main_arg4) = m ((c.tc : Thread Cert.ExactIdeal.nD Cert.ExactIdeal.τ).loc Cert.ExactIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_PolynomialIdeal [hKernelIdeal : Cert.KernelIdeal.Facts] [hPolynomialIdeal : Cert.PolynomialIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.PolynomialIdeal.nD Cert.PolynomialIdeal.τ Cert.PolynomialIdeal.sig) → Buf (Elt Ideal) ℓ) (g' : Dev Cert.PolynomialIdeal.nD → PrngReg), Pre_KernelIdeal m →
    (∀ c : Dev Cert.KernelIdeal.nD,
      m' ((c.tc : Thread Cert.PolynomialIdeal.nD Cert.PolynomialIdeal.τ).loc Cert.PolynomialIdeal.main_arg0) = m ((c.tc : Thread Cert.KernelIdeal.nD Cert.KernelIdeal.τ).loc Cert.KernelIdeal.main_arg0)
      ∧ m' ((c.tc : Thread Cert.PolynomialIdeal.nD Cert.PolynomialIdeal.τ).loc Cert.PolynomialIdeal.main_arg1) = m ((c.tc : Thread Cert.KernelIdeal.nD Cert.KernelIdeal.τ).loc Cert.KernelIdeal.main_arg1)
      ∧ m' ((c.tc : Thread Cert.PolynomialIdeal.nD Cert.PolynomialIdeal.τ).loc Cert.PolynomialIdeal.main_arg2) = m ((c.tc : Thread Cert.KernelIdeal.nD Cert.KernelIdeal.τ).loc Cert.KernelIdeal.main_arg2)
      ∧ m' ((c.tc : Thread Cert.PolynomialIdeal.nD Cert.PolynomialIdeal.τ).loc Cert.PolynomialIdeal.main_arg3) = m ((c.tc : Thread Cert.KernelIdeal.nD Cert.KernelIdeal.τ).loc Cert.KernelIdeal.main_arg3)
      ∧ m' ((c.tc : Thread Cert.PolynomialIdeal.nD Cert.PolynomialIdeal.τ).loc Cert.PolynomialIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.PolynomialIdeal.defs (F := Ideal)) (onTc (τ := Cert.PolynomialIdeal.τ) (Cert.PolynomialIdeal.main (F := Ideal))) ⟨m', fun _ => 0, g'⟩ (fun r => ∀ c : Dev Cert.PolynomialIdeal.nD,
          r.2.mem ((c.tc : Thread Cert.PolynomialIdeal.nD Cert.PolynomialIdeal.τ).loc Cert.PolynomialIdeal.main_v19) = v0 c
          ∧ r.2.mem ((c.tc : Thread Cert.PolynomialIdeal.nD Cert.PolynomialIdeal.τ).loc Cert.PolynomialIdeal.main_arg0) = m' ((c.tc : Thread Cert.PolynomialIdeal.nD Cert.PolynomialIdeal.τ).loc Cert.PolynomialIdeal.main_arg0)
          ∧ r.2.mem ((c.tc : Thread Cert.PolynomialIdeal.nD Cert.PolynomialIdeal.τ).loc Cert.PolynomialIdeal.main_arg1) = m' ((c.tc : Thread Cert.PolynomialIdeal.nD Cert.PolynomialIdeal.τ).loc Cert.PolynomialIdeal.main_arg1)
          ∧ r.2.mem ((c.tc : Thread Cert.PolynomialIdeal.nD Cert.PolynomialIdeal.τ).loc Cert.PolynomialIdeal.main_arg2) = m' ((c.tc : Thread Cert.PolynomialIdeal.nD Cert.PolynomialIdeal.τ).loc Cert.PolynomialIdeal.main_arg2)
          ∧ r.2.mem ((c.tc : Thread Cert.PolynomialIdeal.nD Cert.PolynomialIdeal.τ).loc Cert.PolynomialIdeal.main_arg3) = m' ((c.tc : Thread Cert.PolynomialIdeal.nD Cert.PolynomialIdeal.τ).loc Cert.PolynomialIdeal.main_arg3)
          ∧ r.2.mem ((c.tc : Thread Cert.PolynomialIdeal.nD Cert.PolynomialIdeal.τ).loc Cert.PolynomialIdeal.main_arg4) = m' ((c.tc : Thread Cert.PolynomialIdeal.nD Cert.PolynomialIdeal.τ).loc Cert.PolynomialIdeal.main_arg4))

def holds_KernelIdeal_near_reference_pre_in_range [hKernelIdeal : Cert.KernelIdeal.Facts] [hPre_in_range : Cert.Pre_in_range.Facts] [hPost_near_reference : Cert.Post_near_reference.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ (Cert.Post_near_reference.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (r.2.mem ((c.tc : Thread Cert.KernelIdeal.nD Cert.KernelIdeal.τ).loc Cert.KernelIdeal.main_v0))) = (fun _ => 1#1))

def preserves_Exact_ExactIdeal : Prop :=
  True

def algebraic_ExactIdeal_ReferenceIdeal [hExactIdeal : Cert.ExactIdeal.Facts] [hReferenceIdeal : Cert.ReferenceIdeal.Facts] : Prop :=
  ∀ (m : (ℓ : Loc Cert.ExactIdeal.nD Cert.ExactIdeal.τ Cert.ExactIdeal.sig) → Buf (Elt Ideal) ℓ) (g : Dev Cert.ExactIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_ExactIdeal m →
    (∀ c : Dev Cert.ExactIdeal.nD,
      m' ((c.tc : Thread Cert.ReferenceIdeal.nD Cert.ReferenceIdeal.τ).loc Cert.ReferenceIdeal.main_arg0) = m ((c.tc : Thread Cert.ExactIdeal.nD Cert.ExactIdeal.τ).loc Cert.ExactIdeal.main_arg0)
      ∧ m' ((c.tc : Thread Cert.ReferenceIdeal.nD Cert.ReferenceIdeal.τ).loc Cert.ReferenceIdeal.main_arg1) = m ((c.tc : Thread Cert.ExactIdeal.nD Cert.ExactIdeal.τ).loc Cert.ExactIdeal.main_arg1)
      ∧ m' ((c.tc : Thread Cert.ReferenceIdeal.nD Cert.ReferenceIdeal.τ).loc Cert.ReferenceIdeal.main_arg2) = m ((c.tc : Thread Cert.ExactIdeal.nD Cert.ExactIdeal.τ).loc Cert.ExactIdeal.main_arg2)
      ∧ m' ((c.tc : Thread Cert.ReferenceIdeal.nD Cert.ReferenceIdeal.τ).loc Cert.ReferenceIdeal.main_arg3) = m ((c.tc : Thread Cert.ExactIdeal.nD Cert.ExactIdeal.τ).loc Cert.ExactIdeal.main_arg3)
      ∧ m' ((c.tc : Thread Cert.ReferenceIdeal.nD Cert.ReferenceIdeal.τ).loc Cert.ReferenceIdeal.main_arg4) = m ((c.tc : Thread Cert.ExactIdeal.nD Cert.ExactIdeal.τ).loc Cert.ExactIdeal.main_arg4)) →
    ∃ (v0 : (c : Dev Cert.ExactIdeal.nD) → Buf (Elt Ideal) ((c.tc : Thread Cert.ExactIdeal.nD Cert.ExactIdeal.τ).loc Cert.ExactIdeal.main_v3)),
      θ_run (Cert.ExactIdeal.defs (F := Ideal)) (onTc (τ := Cert.ExactIdeal.τ) (Cert.ExactIdeal.main (F := Ideal))) ⟨m, fun _ => 0, g⟩ (fun r => ∀ c : Dev Cert.ExactIdeal.nD,
          r.2.mem ((c.tc : Thread Cert.ExactIdeal.nD Cert.ExactIdeal.τ).loc Cert.ExactIdeal.main_v3) = v0 c
          ∧ r.2.mem ((c.tc : Thread Cert.ExactIdeal.nD Cert.ExactIdeal.τ).loc Cert.ExactIdeal.main_arg0) = m ((c.tc : Thread Cert.ExactIdeal.nD Cert.ExactIdeal.τ).loc Cert.ExactIdeal.main_arg0)
          ∧ r.2.mem ((c.tc : Thread Cert.ExactIdeal.nD Cert.ExactIdeal.τ).loc Cert.ExactIdeal.main_arg1) = m ((c.tc : Thread Cert.ExactIdeal.nD Cert.ExactIdeal.τ).loc Cert.ExactIdeal.main_arg1)
          ∧ r.2.mem ((c.tc : Thread Cert.ExactIdeal.nD Cert.ExactIdeal.τ).loc Cert.ExactIdeal.main_arg2) = m ((c.tc : Thread Cert.ExactIdeal.nD Cert.ExactIdeal.τ).loc Cert.ExactIdeal.main_arg2)
          ∧ r.2.mem ((c.tc : Thread Cert.ExactIdeal.nD Cert.ExactIdeal.τ).loc Cert.ExactIdeal.main_arg3) = m ((c.tc : Thread Cert.ExactIdeal.nD Cert.ExactIdeal.τ).loc Cert.ExactIdeal.main_arg3)
          ∧ r.2.mem ((c.tc : Thread Cert.ExactIdeal.nD Cert.ExactIdeal.τ).loc Cert.ExactIdeal.main_arg4) = m ((c.tc : Thread Cert.ExactIdeal.nD Cert.ExactIdeal.τ).loc Cert.ExactIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hPolynomialIdeal : Cert.PolynomialIdeal.Facts) (hExact : Cert.Exact.Facts) (hExactIdeal : Cert.ExactIdeal.Facts) (hReferenceIdeal : Cert.ReferenceIdeal.Facts) (hPre_in_range : Cert.Pre_in_range.Facts) (hPost_near_reference : Cert.Post_near_reference.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_PolynomialIdeal (hPolynomialIdeal := hPolynomialIdeal)
    ∧ quiescent_Exact (hExact := hExact)
    ∧ quiescent_ExactIdeal (hExactIdeal := hExactIdeal)
    ∧ quiescent_ReferenceIdeal (hReferenceIdeal := hReferenceIdeal)
    ∧ preserves_Kernel_KernelIdeal
    ∧ algebraic_KernelIdeal_PolynomialIdeal (hKernelIdeal := hKernelIdeal) (hPolynomialIdeal := hPolynomialIdeal)
    ∧ holds_KernelIdeal_near_reference_pre_in_range (hKernelIdeal := hKernelIdeal) (hPre_in_range := hPre_in_range) (hPost_near_reference := hPost_near_reference)
    ∧ preserves_Exact_ExactIdeal
    ∧ algebraic_ExactIdeal_ReferenceIdeal (hExactIdeal := hExactIdeal) (hReferenceIdeal := hReferenceIdeal)
-- ==== Post_near_reference.lean ====
abbrev S16384 : Shape := ⟨1, ![16384]⟩
abbrev S128x1 : Shape := ⟨2, ![128, 1]⟩
abbrev S128 : Shape := ⟨1, ![128]⟩
abbrev S16384x128 : Shape := ⟨2, ![16384, 128]⟩
abbrev S16384x1 : Shape := ⟨2, ![16384, 1]⟩
abbrev S1x128 : Shape := ⟨2, ![1, 128]⟩
abbrev S_ : Shape := ⟨0, ![]⟩

class Facts : Prop where
  shapeCasts_S16384_S16384x1 : S16384.ShapeCasts S16384x1
  transposes_S128x1_S1x128_1_0 : S128x1.Transposes [1, 0] S1x128
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S_S16384x128 : S_.BroadcastsInDim S16384x128 (![] : Fin 0 → Fin S16384x128.rank)
  dot_S16384x1_S1x128_S16384x128_1_0_0_1_n_n_wf : DotDims.WF S16384x1 S1x128 S16384x128 [1] [0] [0] [1] [] []

variable [Facts]

def dot_S16384x1_S1x128_S16384x128_1_0_0_1_n_n : DotDims S16384x1 S1x128 S16384x128 where
  lhsContracting := [1]
  rhsContracting := [0]
  lhsNonContracting := [0]
  rhsNonContracting := [1]
  lhsBatch := []
  rhsBatch := []
  wf := dot_S16384x1_S1x128_S16384x128_1_0_0_1_n_n_wf
def fn {F : FTy → Type} [FloatOps F] (main_arg0 : IVec S16384 32) (main_arg1 : IVec S16384 32) (main_arg2 : FVec F S16384 .f32) (main_arg3 : FVec F S128x1 .f32) (main_arg4 : FVec F S128 .f32) (main_arg5 : FVec F S16384x128 .f32) : IVec S16384x128 1 :=
  let main_v0 : FVec F S16384x1 .f32 := shapeCast S16384x1 main_arg2 shapeCasts_S16384_S16384x1
  let main_v1 : FVec F S1x128 .f32 := (transpose S1x128 [1, 0] · transposes_S128x1_S1x128_1_0) main_arg3
  let main_v2 : FVec F S16384x128 .f32 := (fun l r => Host.dotGeneral dot_S16384x1_S1x128_S16384x128_1_0_0_1_n_n none l r) main_v0 main_v1
  let main_v3 : FVec F S1x128 .f32 := broadcastInDim S1x128 ![1] bcast_S128_S1x128_1 main_arg4
  let main_v4 : FVec F S16384x128 .f32 := broadcastInDim S16384x128 ![0, 1] bcast_S1x128_S16384x128_0_1 main_v3
  let main_v5 : FVec F S16384x128 .f32 := addf main_v2 main_v4
  let main_v6 : FVec F S16384x128 .f32 := Host.cos main_v5
  let main_v7 : FVec F S16384x128 .f32 := subf main_arg5 main_v6
  let main_v8 : FVec F S16384x128 .f32 := Host.absf main_v7
  let main_cst : FVec F S_ .f32 := constant S_ .f32 0x35C9539C#32
  let main_v9 : FVec F S16384x128 .f32 := broadcastInDim S16384x128 ![] bcast_S_S16384x128 main_cst
  let main_v10 : IVec S16384x128 1 := cmpf .ole main_v8 main_v9
  main_v10
-- ==== Pre_in_range.lean ====
abbrev S16384 : Shape := ⟨1, ![16384]⟩
abbrev S128x1 : Shape := ⟨2, ![128, 1]⟩
abbrev S128 : Shape := ⟨1, ![128]⟩
abbrev S_ : Shape := ⟨0, ![]⟩

class Facts : Prop where
  bcast_S_S16384 : S_.BroadcastsInDim S16384 (![] : Fin 0 → Fin S16384.rank)
  bcast_S_S128x1 : S_.BroadcastsInDim S128x1 (![] : Fin 0 → Fin S128x1.rank)
  bcast_S_S128 : S_.BroadcastsInDim S128 (![] : Fin 0 → Fin S128.rank)

variable [Facts]

def fn {F : FTy → Type} [FloatOps F] (main_arg0 : IVec S16384 32) (main_arg1 : IVec S16384 32) (main_arg2 : FVec F S16384 .f32) (main_arg3 : FVec F S128x1 .f32) (main_arg4 : FVec F S128 .f32) : IVec S16384 1 × IVec S128x1 1 × IVec S128 1 :=
  let main_cst : FVec F S_ .f32 := constant S_ .f32 0x00000000#32
  let main_v0 : FVec F S16384 .f32 := broadcastInDim S16384 ![] bcast_S_S16384 main_cst
  let main_v1 : IVec S16384 1 := cmpf .oge main_arg2 main_v0
  let main_cst_0 : FVec F S_ .f32 := constant S_ .f32 0x3F800000#32
  let main_v2 : FVec F S16384 .f32 := broadcastInDim S16384 ![] bcast_S_S16384 main_cst_0
  let main_v3 : IVec S16384 1 := cmpf .ole main_arg2 main_v2
  let main_v4 : IVec S16384 1 := andi main_v1 main_v3
  let main_cst_1 : FVec F S_ .f32 := constant S_ .f32 0xBF800000#32
  let main_v5 : FVec F S128x1 .f32 := broadcastInDim S128x1 ![] bcast_S_S128x1 main_cst_1
  let main_v6 : IVec S128x1 1 := cmpf .oge main_arg3 main_v5
  let main_cst_2 : FVec F S_ .f32 := constant S_ .f32 0x3F800000#32
  let main_v7 : FVec F S128x1 .f32 := broadcastInDim S128x1 ![] bcast_S_S128x1 main_cst_2
  let main_v8 : IVec S128x1 1 := cmpf .ole main_arg3 main_v7
  let main_v9 : IVec S128x1 1 := andi main_v6 main_v8
  let main_cst_3 : FVec F S_ .f32 := constant S_ .f32 0xBF800000#32
  let main_v10 : FVec F S128 .f32 := broadcastInDim S128 ![] bcast_S_S128 main_cst_3
  let main_v11 : IVec S128 1 := cmpf .oge main_arg4 main_v10
  let main_cst_4 : FVec F S_ .f32 := constant S_ .f32 0x3F800000#32
  let main_v12 : FVec F S128 .f32 := broadcastInDim S128 ![] bcast_S_S128 main_cst_4
  let main_v13 : IVec S128 1 := cmpf .ole main_arg4 main_v12
  let main_v14 : IVec S128 1 := andi main_v11 main_v13
  (main_v4, main_v9, main_v14)
-- ==== Kernel.lean ====
abbrev S16384 : Shape := ⟨1, ![16384]⟩
abbrev S128x1 : Shape := ⟨2, ![128, 1]⟩
abbrev S128 : Shape := ⟨1, ![128]⟩
abbrev S16384x128 : Shape := ⟨2, ![16384, 128]⟩
abbrev S2048 : Shape := ⟨1, ![2048]⟩
abbrev S2048x128 : Shape := ⟨2, ![2048, 128]⟩
abbrev S1x2048 : Shape := ⟨2, ![1, 2048]⟩
abbrev S2048x1 : Shape := ⟨2, ![2048, 1]⟩
abbrev S1x128 : Shape := ⟨2, ![1, 128]⟩

abbrev nBuf : Space → Nat
  | .hbm => 6
  | .vmem => 6
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S16384, .f32⟩
  | .hbm, ⟨3, _⟩ => ⟨S128x1, .f32⟩
  | .hbm, ⟨4, _⟩ => ⟨S128, .f32⟩
  | .hbm, ⟨5, _⟩ => ⟨S16384x128, .f32⟩
  | .local _ .vmem, ⟨0, _⟩ => ⟨S2048, .f32⟩
  | .local _ .vmem, ⟨1, _⟩ => ⟨S2048, .f32⟩
  | .local _ .vmem, ⟨2, _⟩ => ⟨S128x1, .f32⟩
  | .local _ .vmem, ⟨3, _⟩ => ⟨S128, .f32⟩
  | .local _ .vmem, ⟨4, _⟩ => ⟨S2048x128, .f32⟩
  | .local _ .vmem, ⟨5, _⟩ => ⟨S2048x128, .f32⟩
  | _, _ => ⟨S16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PolynomialIdeal.lean ====
abbrev S16384 : Shape := ⟨1, ![16384]⟩
abbrev S128x1 : Shape := ⟨2, ![128, 1]⟩
abbrev S128 : Shape := ⟨1, ![128]⟩
abbrev S16384x1 : Shape := ⟨2, ![16384, 1]⟩
abbrev S1x128 : Shape := ⟨2, ![1, 128]⟩
abbrev S16384x128 : Shape := ⟨2, ![16384, 128]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S16384, .f32⟩
  | .hbm, ⟨3, _⟩ => ⟨S128x1, .f32⟩
  | .hbm, ⟨4, _⟩ => ⟨S128, .f32⟩
  | .hbm, ⟨5, _⟩ => ⟨S16384x1, .f32⟩
  | .hbm, ⟨6, _⟩ => ⟨S1x128, .f32⟩
  | .hbm, ⟨7, _⟩ => ⟨S16384x128, .f32⟩
  | .hbm, ⟨8, _⟩ => ⟨S1x128, .f32⟩
  | .hbm, ⟨9, _⟩ => ⟨S16384x128, .f32⟩
  | .hbm, ⟨10, _⟩ => ⟨S16384x128, .f32⟩
  | .hbm, ⟨11, _⟩ => ⟨S16384x128, .f32⟩
  | .hbm, ⟨12, _⟩ => ⟨S_, .f32⟩
  | .hbm, ⟨13, _⟩ => ⟨S16384x128, .f32⟩
  | .hbm, ⟨14, _⟩ => ⟨S16384x128, .f32⟩
  | .hbm, ⟨15, _⟩ => ⟨S_, .f32⟩
  | .hbm, ⟨16, _⟩ => ⟨S16384x128, .f32⟩
  | .hbm, ⟨17, _⟩ => ⟨S16384x128, .f32⟩
  | .hbm, ⟨18, _⟩ => ⟨S16384x128, .f32⟩
  | .hbm, ⟨19, _⟩ => ⟨S_, .f32⟩
  | .hbm, ⟨20, _⟩ => ⟨S16384x128, .f32⟩
  | .hbm, ⟨21, _⟩ => ⟨S16384x128, .f32⟩
  | .hbm, ⟨22, _⟩ => ⟨S16384x128, .f32⟩
  | .hbm, ⟨23, _⟩ => ⟨S_, .f32⟩
  | .hbm, ⟨24, _⟩ => ⟨S16384x128, .f32⟩
  | .hbm, ⟨25, _⟩ => ⟨S16384x128, .f32⟩
  | .hbm, ⟨26, _⟩ => ⟨S16384x128, .f32⟩
  | .hbm, ⟨27, _⟩ => ⟨S_, .f32⟩
  | .hbm, ⟨28, _⟩ => ⟨S16384x128, .f32⟩
  | .hbm, ⟨29, _⟩ => ⟨S16384x128, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]
-- ==== Exact.lean ====
abbrev S16384 : Shape := ⟨1, ![16384]⟩
abbrev S128x1 : Shape := ⟨2, ![128, 1]⟩
abbrev S128 : Shape := ⟨1, ![128]⟩
abbrev S16384x1 : Shape := ⟨2, ![16384, 1]⟩
abbrev S1x128 : Shape := ⟨2, ![1, 128]⟩
abbrev S16384x128 : Shape := ⟨2, ![16384, 128]⟩
abbrev S2048x1 : Shape := ⟨2, ![2048, 1]⟩
abbrev S2048x128 : Shape := ⟨2, ![2048, 128]⟩

abbrev nBuf : Space → Nat
  | .hbm => 9
  | .vmem => 6
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S16384, .f32⟩
  | .hbm, ⟨3, _⟩ => ⟨S128x1, .f32⟩
  | .hbm, ⟨4, _⟩ => ⟨S128, .f32⟩
  | .hbm, ⟨5, _⟩ => ⟨S16384x1, .f32⟩
  | .hbm, ⟨6, _⟩ => ⟨S1x128, .f32⟩
  | .hbm, ⟨7, _⟩ => ⟨S1x128, .f32⟩
  | .hbm, ⟨8, _⟩ => ⟨S16384x128, .f32⟩
  | .local _ .vmem, ⟨0, _⟩ => ⟨S2048x1, .f32⟩
  | .local _ .vmem, ⟨1, _⟩ => ⟨S2048x1, .f32⟩
  | .local _ .vmem, ⟨2, _⟩ => ⟨S1x128, .f32⟩
  | .local _ .vmem, ⟨3, _⟩ => ⟨S1x128, .f32⟩
  | .local _ .vmem, ⟨4, _⟩ => ⟨S2048x128, .f32⟩
  | .local _ .vmem, ⟨5, _⟩ => ⟨S2048x128, .f32⟩
  | _, _ => ⟨S16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S16384 : Shape := ⟨1, ![16384]⟩
abbrev S128x1 : Shape := ⟨2, ![128, 1]⟩
abbrev S128 : Shape := ⟨1, ![128]⟩
abbrev S16384x1 : Shape := ⟨2, ![16384, 1]⟩
abbrev S1x128 : Shape := ⟨2, ![1, 128]⟩
abbrev S16384x128 : Shape := ⟨2, ![16384, 128]⟩

abbrev nBuf : Space → Nat
  | .hbm => 12
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S16384, .f32⟩
  | .hbm, ⟨3, _⟩ => ⟨S128x1, .f32⟩
  | .hbm, ⟨4, _⟩ => ⟨S128, .f32⟩
  | .hbm, ⟨5, _⟩ => ⟨S16384x1, .f32⟩
  | .hbm, ⟨6, _⟩ => ⟨S1x128, .f32⟩
  | .hbm, ⟨7, _⟩ => ⟨S16384x128, .f32⟩
  | .hbm, ⟨8, _⟩ => ⟨S1x128, .f32⟩
  | .hbm, ⟨9, _⟩ => ⟨S16384x128, .f32⟩
  | .hbm, ⟨10, _⟩ => ⟨S16384x128, .f32⟩
  | .hbm, ⟨11, _⟩ => ⟨S16384x128, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Proof.Series.lean ====
module

public import Idealize.ShloMosaic.Lib.Pointwise
public import Idealize.ShloMosaic.Lib.IdealHost

/-! The scalar functions of this certificate, over the extended reals: the linear form `t·w + b`, and the polynomial in
the square of its argument that stands for the cosine, in Horner's order with the five printed coefficients; and the
printed literals as real numbers. -/

@[expose] public section

noncomputable section

open Idealize.ShloMosaic

namespace Cert.Series

/-- The time times the weight, plus the bias. -/
def lin (t w b : EReal) : EReal := t * w + b

/-- The polynomial of degree four in `x·x`, by Horner's rule, its coefficients the five binary32 literals. -/
def poly (x : EReal) : EReal :=
  (((Ideal.ofBits .f32 0x37BB29F5#32 * (x * x) + Ideal.ofBits .f32 0xBAB4FC8C#32) * (x * x)
      + Ideal.ofBits .f32 0x3D2A9F79#32) * (x * x) + Ideal.ofBits .f32 0xBEFFFF5B#32) * (x * x)
    + Ideal.ofBits .f32 0x3F7FFFFA#32

/-- The literal of the fourth power's coefficient, as a real number. -/
theorem coef4 : Ideal.ofBits .f32 0x37BB29F5#32 = ((12265973 / 2 ^ 39 : ℝ) : EReal) := by
  simp [Ideal.ofBits, Ideal.ieee, -EReal.coe_mul, -EReal.coe_neg]; norm_num

/-- The literal of the third power's coefficient, as a real number. -/
theorem coef3 : Ideal.ofBits .f32 0xBAB4FC8C#32 = ((-(2965283 / 2 ^ 31) : ℝ) : EReal) := by
  simp [Ideal.ofBits, Ideal.ieee, -EReal.coe_mul, -EReal.coe_neg]; norm_num

/-- The third coefficient's magnitude, as a real number. -/
theorem coef3_abs : Ideal.ofBits .f32 0x3AB4FC8C#32 = ((2965283 / 2 ^ 31 : ℝ) : EReal) := by
  simp [Ideal.ofBits, Ideal.ieee, -EReal.coe_mul, -EReal.coe_neg]; norm_num

/-- The literal of the square's coefficient, as a real number. -/
theorem coef2 : Ideal.ofBits .f32 0x3D2A9F79#32 = ((11181945 / 2 ^ 28 : ℝ) : EReal) := by
  simp [Ideal.ofBits, Ideal.ieee, -EReal.coe_mul, -EReal.coe_neg]; norm_num

/-- The literal of the first power's coefficient, as a real number. -/
theorem coef1 : Ideal.ofBits .f32 0xBEFFFF5B#32 = ((-(16777051 / 2 ^ 25) : ℝ) : EReal) := by
  simp [Ideal.ofBits, Ideal.ieee, -EReal.coe_mul, -EReal.coe_neg]; norm_num

/-- The first coefficient's magnitude, as a real number. -/
theorem coef1_abs : Ideal.ofBits .f32 0x3EFFFF5B#32 = ((16777051 / 2 ^ 25 : ℝ) : EReal) := by
  simp [Ideal.ofBits, Ideal.ieee, -EReal.coe_mul, -EReal.coe_neg]; norm_num

/-- The literal of the constant coefficient, as a real number. -/
theorem coef0 : Ideal.ofBits .f32 0x3F7FFFFA#32 = ((8388605 / 2 ^ 23 : ℝ) : EReal) := by
  simp [Ideal.ofBits, Ideal.ieee, -EReal.coe_mul, -EReal.coe_neg]; norm_num

/-- The literal of the stated error bound, as a real number. -/
theorem bound : Ideal.ofBits .f32 0x35C9539C#32 = ((3298535 / 2 ^ 41 : ℝ) : EReal) := by
  simp [Ideal.ofBits, Ideal.ieee, -EReal.coe_mul, -EReal.coe_neg]; norm_num

/-- The literal minus one, as a real number. -/
theorem minus_one : Ideal.ofBits .f32 0xBF800000#32 = ((-1 : ℝ) : EReal) := by
  simp [Ideal.ofBits, Ideal.ieee, -EReal.coe_mul, -EReal.coe_neg]; norm_num

/-- Subtracting the third coefficient's magnitude is adding the negative coefficient. -/
theorem sub_coef3 (y : EReal) : y - Ideal.ofBits .f32 0x3AB4FC8C#32 = y + Ideal.ofBits .f32 0xBAB4FC8C#32 := by
  rw [coef3, coef3_abs, sub_eq_add_neg, EReal.coe_neg]

/-- Subtracting the first coefficient's magnitude is adding the negative coefficient. -/
theorem sub_coef1 (y : EReal) : y - Ideal.ofBits .f32 0x3EFFFF5B#32 = y + Ideal.ofBits .f32 0xBEFFFF5B#32 := by
  rw [coef1, coef1_abs, sub_eq_add_neg, EReal.coe_neg]

end Cert.Series
-- ==== Proof.KernelValue.lean ====
module

public import proofs.«01_k».proof.Proof.Series
public import proofs.«01_k».proof.Proof.Gen.KernelIdeal.Value

/-! What the optimised kernel computes: one block (`pay_apply`), then the whole result array (`final`), then its run. -/

@[expose] public section

noncomputable section

open Idealize.ShloMosaic Idealize.ShloMosaic.TcCoe Idealize.SL.Sem
open Idealize.ShloMosaic.Pipeline (Dat)

namespace Cert.KernelIdeal.Result

open Cert.KernelIdeal Cert.KernelIdeal.Gen Cert.Series

/-- One block of the kernel at row `r` and feature `l`: the polynomial of the row's time times the feature's weight plus
    the feature's bias. -/
theorem pay_apply (T : FVec Ideal S2048 .f32) (W : FVec Ideal S128x1 .f32) (B : FVec Ideal S128 .f32) (r : Fin 2048) (l : Fin 128) :
    k0_pay1 (F := Ideal) T W B (ix2 r l) = poly (lin (T (ix1 r)) (W (ix2 l 0)) (B (ix1 l))) := by
  pointwise [k0_pay1]
  simp only [Finset.univ_unique, Finset.sum_singleton, poly, lin]
  rfl

variable (m : (ℓ : Loc nD τ sig) → Buf (Elt Ideal) ℓ) (ρ : Dev nD → PrngReg)

/-- The whole result: at row `n` and feature `l` the polynomial of the linear form of the launch's arguments. -/
def G (c : Dev nD) : Buf (Elt Ideal) ((c : Thread nD τ).loc main_v0) := fun i : S16384x128.Idx =>
  poly (lin ((m ((c : Thread nD τ).loc main_arg2) : FVec Ideal S16384 .f32) (ix1 (i 0)))
    ((m ((c : Thread nD τ).loc main_arg3) : FVec Ideal S128x1 .f32) (ix2 (i 1) 0))
    ((m ((c : Thread nD τ).loc main_arg4) : FVec Ideal S128 .f32) (ix1 (i 1))))

/-- The offsets of a whole two-axis buffer are zero. -/
theorem hz2 : (![0, 0] : Fin 2 → Nat) = fun _ => 0 := funext fun a => by fin_cases a <;> rfl
/-- The offset of a whole one-axis buffer is zero. -/
theorem hz1 : (![0] : Fin 1 → Nat) = fun _ => 0 := funext fun a => by fin_cases a; rfl

/-- The block that the body stores, read at an index, is the payload of the three loaded blocks. -/
theorem out_eq (T : Vec Ideal S2048 .f32) (W : Vec Ideal S128x1 .f32) (B : Vec Ideal S128 .f32) :
    out0_3 (F := Ideal) T W B = k0_pay1 T W B := by
  unfold out0_3
  rw [View.canon_unit_zero hz2, View.ld_unit_zero hz1, View.ld_unit_zero hz2, View.ld_unit_zero hz1]

/-- Where the windows read and write at grid point `t`: rows `2048·t` onwards, weights and biases whole. -/
theorem index_eq (t : Fin cfg0.N) : win0_0.index t 0 = t.val ∧ win0_1.index t 0 = 0 ∧ win0_1.index t 1 = 0
    ∧ win0_2.index t 0 = 0 ∧ win0_3.index t 0 = t.val ∧ win0_3.index t 1 = 0 :=
  (by decide +kernel : ∀ t : Fin grid0.N, win0_0.index t 0 = t.val ∧ win0_1.index t 0 = 0 ∧ win0_1.index t 1 = 0
    ∧ win0_2.index t 0 = 0 ∧ win0_3.index t 0 = t.val ∧ win0_3.index t 1 = 0) t

/-- Row `r` of block `t` lies in the array. -/
theorem row_lt (t : Fin cfg0.N) (r : Fin 2048) : t.val * 2048 + r.val < 16384 := by
  have h : t.val < 8 := t.isLt
  have := r.isLt
  omega

/-- The row of the result that row `r` of block `t` is. -/
def row (t : Fin cfg0.N) (r : Fin 2048) : Fin 16384 := ⟨t.val * 2048 + r.val, row_lt t r⟩

/-- Row `r` of the times' block at point `t` is row `2048·t + r` of the times. -/
theorem emb0 (t : Fin cfg0.N) (j : S2048.Idx) : ((cfg0.win 0).blk t).view.emb j = ix1 (row t (j 0)) := by
  have e := (index_eq t).1
  funext a; apply Fin.ext
  match a with
  | ⟨0, _⟩ => show win0_0.index t (0 : Fin 1) * 2048 + 1 * (j 0).val = t.val * 2048 + (j 0).val; omega

/-- The weights' block is the weights. -/
theorem emb1 (t : Fin cfg0.N) (j : S128x1.Idx) : ((cfg0.win 1).blk t).view.emb j = j := by
  obtain ⟨-, e0, e1, -⟩ := index_eq t
  funext a; apply Fin.ext
  match a with
  | ⟨0, _⟩ => show win0_1.index t (0 : Fin 2) * 128 + 1 * (j 0).val = (j 0).val; omega
  | ⟨1, _⟩ => show win0_1.index t (1 : Fin 2) * 1 + 1 * (j 1).val = (j 1).val; omega

/-- The biases' block is the biases. -/
theorem emb2 (t : Fin cfg0.N) (j : S128.Idx) : ((cfg0.win 2).blk t).view.emb j = j := by
  obtain ⟨-, -, -, e0, -⟩ := index_eq t
  funext a; apply Fin.ext
  match a with
  | ⟨0, _⟩ => show win0_2.index t (0 : Fin 1) * 128 + 1 * (j 0).val = (j 0).val; omega

/-- Row `r` of the result's block at point `t` is row `2048·t + r` of the result. -/
theorem emb3 (t : Fin cfg0.N) (j : S2048x128.Idx) : ((cfg0.win 3).blk t).view.emb j = ix2 (row t (j 0)) (j 1) := by
  obtain ⟨-, -, -, -, e0, e1⟩ := index_eq t
  funext a; apply Fin.ext
  match a with
  | ⟨0, _⟩ => show win0_3.index t (0 : Fin 2) * 2048 + 1 * (j 0).val = t.val * 2048 + (j 0).val; omega
  | ⟨1, _⟩ => show win0_3.index t (1 : Fin 2) * 128 + 1 * (j 1).val = (j 1).val; omega

/-- The times' block at point `t`, read at a row. -/
theorem iblk0_apply (c : Dev nD) (t : Fin cfg0.N) (j : S2048.Idx) :
    iblk m c 0 t j = V m c main_arg2 (ix1 (row t (j 0))) := by
  show V m c main_arg2 (((cfg0.win 0).blk t).view.emb j) = _; rw [emb0]

/-- The weights' block, whole. -/
theorem iblk1_eq (c : Dev nD) (t : Fin cfg0.N) : iblk m c 1 t = V m c main_arg3 := by
  funext j; show V m c main_arg3 (((cfg0.win 1).blk t).view.emb j) = V m c main_arg3 j; rw [emb1]

/-- The biases' block, whole. -/
theorem iblk2_eq (c : Dev nD) (t : Fin cfg0.N) : iblk m c 2 t = V m c main_arg4 := by
  funext j; show V m c main_arg4 (((cfg0.win 2).blk t).view.emb j) = V m c main_arg4 j; rw [emb2]

/-- Cutting block `t` out of the staging buffer `X` of an array `Y` is reading `Y` through the block, when `X` at each
    index is `Y` at the row that the block's row is. -/
theorem cut3_eq (t : Fin cfg0.N) (X : Vec Ideal S2048x128 .f32) (Y : Vec Ideal S16384x128 .f32)
    (h : ∀ (r : Fin 2048) (l : Fin 128), X (ix2 r l) = Y (ix2 (row t r) l)) :
    (cfg0.win 3).cut (grid0.coords t) X = ((cfg0.win 3).blk t).view.read (Elt Ideal) Y := by
  funext j
  show X j = Y (((cfg0.win 3).blk t).view.emb j)
  rw [emb3]
  exact (congrArg X (eq_ix2 (n0 := 2048) (n1 := 128) j)).trans (h (j 0) (j 1))

/-- Point `t` writes back block `t` of the whole result. -/
theorem flushed_eq (c : Dev nD) (t : Fin cfg0.N) :
    (dats m 0 c).flushed 3 t = ((cfg0.win 3).blk t).view.read (Elt Ideal) (G m c) := by
  rw [Value.flushed3, out_eq]
  refine cut3_eq t _ (G m c) fun r l => ?_
  rw [pay_apply, iblk0_apply, iblk1_eq, iblk2_eq, V_main_arg2, V_main_arg3, V_main_arg4]
  rfl

/-- Every row of the result is a row of some point's block. -/
theorem exists_row (n : Fin 16384) : ∃ (t : Fin cfg0.N) (r : Fin 2048), row t r = n :=
  ⟨⟨n.val / 2048, (Nat.div_lt_iff_lt_mul (by decide)).mpr n.isLt⟩, ⟨n.val % 2048, Nat.mod_lt _ (by decide)⟩,
    Fin.ext (Nat.div_add_mod' n.val 2048)⟩

/-- The blocks of the eight points cover the result. -/
theorem covered (i : S16384x128.Idx) :
    ∃ t : Fin cfg0.N, (cfg0.win 3).flush t = true ∧ i ∈ ((cfg0.win 3).blk t).view.set := by
  obtain ⟨t, r, h⟩ := exists_row (i 0)
  refine ⟨t, flush0_3 t, ?_⟩
  have hm := ((cfg0.win 3).blk t).view.emb_mem_set (ix2 r (i 1) : S2048x128.Idx)
  rw [emb3] at hm
  have e : (ix2 (row t r) (i 1) : S16384x128.Idx) = i := by
    rw [h]; exact (eq_ix2 (n0 := 16384) (n1 := 128) i).symm
  rw [← e]
  exact hm

/-- The result array ends holding the whole result. -/
theorem final (c : Dev nD) : (dats m 0 c).arrAt 3 cfg0.N = G m c :=
  (dats m 0 c).arrAt_eq_of_cover 3 (G m c) (fun t _ => flushed_eq m c t) covered

/-- The run, read: the result array holds `G`, the arguments are unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (Value.run_blocks m ρ)

end Cert.KernelIdeal.Result
-- ==== Proof.ExactValue.lean ====
module

public import proofs.«01_k».proof.Proof.Series
public import proofs.«01_k».proof.Proof.Gen.ExactIdeal.Value

/-! What the plain kernel computes: one block (`pay_apply`), then the whole result array (`final`), then its run. -/

@[expose] public section

noncomputable section

open Idealize.ShloMosaic Idealize.ShloMosaic.TcCoe Idealize.SL.Sem
open Idealize.ShloMosaic.Pipeline (Dat)

namespace Cert.ExactIdeal.Result

open Cert.ExactIdeal Cert.ExactIdeal.Gen Cert.Series

/-- One block of the kernel at row `r` and feature `l`: the cosine of the row's time times the feature's weight plus the
    feature's bias. -/
theorem pay_apply (T : FVec Ideal S2048x1 .f32) (W : FVec Ideal S1x128 .f32) (B : FVec Ideal S1x128 .f32) (r : Fin 2048) (l : Fin 128) :
    k0_pay1 (F := Ideal) T W B (ix2 r l) = Ideal.cos (lin (T (ix2 r 0)) (W (ix2 0 l)) (B (ix2 0 l))) := by
  pointwise [k0_pay1]
  rfl

variable (m : (ℓ : Loc nD τ sig) → Buf (Elt Ideal) ℓ) (ρ : Dev nD → PrngReg)

/-- The whole result: at row `n` and feature `l` the cosine of the linear form of the launch's arguments. -/
def G (c : Dev nD) : Buf (Elt Ideal) ((c : Thread nD τ).loc main_v3) := fun i : S16384x128.Idx =>
  Ideal.cos (lin ((m ((c : Thread nD τ).loc main_arg2) : FVec Ideal S16384 .f32) (ix1 (i 0)))
    ((m ((c : Thread nD τ).loc main_arg3) : FVec Ideal S128x1 .f32) (ix2 (i 1) 0))
    ((m ((c : Thread nD τ).loc main_arg4) : FVec Ideal S128 .f32) (ix1 (i 1))))

/-- The offsets of a whole two-axis buffer are zero. -/
theorem hz2 : (![0, 0] : Fin 2 → Nat) = fun _ => 0 := funext fun a => by fin_cases a <;> rfl

/-- The block that the body stores is the payload of the three loaded blocks. -/
theorem out_eq (T : Vec Ideal S2048x1 .f32) (W : Vec Ideal S1x128 .f32) (B : Vec Ideal S1x128 .f32) :
    out0_3 (F := Ideal) T W B = k0_pay1 T W B := by
  unfold out0_3
  rw [View.canon_unit_zero hz2, View.ld_unit_zero hz2, View.ld_unit_zero hz2, View.ld_unit_zero hz2]

/-- The region finds the times as one column. -/
theorem times_apply (c : Dev nD) (n : Fin 16384) :
    (V m c main_v0 : FVec Ideal S16384x1 .f32) (ix2 n 0)
      = (m ((c : Thread nD τ).loc main_arg2) : FVec Ideal S16384 .f32) (ix1 n) := by
  have e : (V m c main_v0 : FVec Ideal S16384x1 .f32)
      = shapeCast S16384x1 (m ((c : Thread nD τ).loc main_arg2) : FVec Ideal S16384 .f32) shapeCasts_S16384_S16384x1 := by
    dsimp only [V, hostOps0]
    after_results_simp <;> rfl
  rw [e]
  pointwise

/-- The region finds the weights as one row. -/
theorem weights_apply (c : Dev nD) (l : Fin 128) :
    (V m c main_v1 : FVec Ideal S1x128 .f32) (ix2 0 l)
      = (m ((c : Thread nD τ).loc main_arg3) : FVec Ideal S128x1 .f32) (ix2 l 0) := by
  have e : (V m c main_v1 : FVec Ideal S1x128 .f32)
      = shapeCast S1x128 (m ((c : Thread nD τ).loc main_arg3) : FVec Ideal S128x1 .f32) shapeCasts_S128x1_S1x128 := by
    dsimp only [V, hostOps0]
    after_results_simp <;> rfl
  rw [e]
  pointwise

/-- The region finds the biases as one row. -/
theorem biases_apply (c : Dev nD) (l : Fin 128) :
    (V m c main_v2 : FVec Ideal S1x128 .f32) (ix2 0 l)
      = (m ((c : Thread nD τ).loc main_arg4) : FVec Ideal S128 .f32) (ix1 l) := by
  have e : (V m c main_v2 : FVec Ideal S1x128 .f32)
      = shapeCast S1x128 (m ((c : Thread nD τ).loc main_arg4) : FVec Ideal S128 .f32) shapeCasts_S128_S1x128 := by
    dsimp only [V, hostOps0]
    after_results_simp <;> rfl
  rw [e]
  pointwise

/-- Where the windows read and write at grid point `t`: rows `2048·t` onwards, weights and biases whole. -/
theorem index_eq (t : Fin cfg0.N) : (win0_0.index t 0 = t.val ∧ win0_0.index t 1 = 0) ∧ (win0_1.index t 0 = 0 ∧ win0_1.index t 1 = 0)
    ∧ (win0_2.index t 0 = 0 ∧ win0_2.index t 1 = 0) ∧ win0_3.index t 0 = t.val ∧ win0_3.index t 1 = 0 :=
  (by decide +kernel : ∀ t : Fin grid0.N, (win0_0.index t 0 = t.val ∧ win0_0.index t 1 = 0) ∧ (win0_1.index t 0 = 0 ∧ win0_1.index t 1 = 0)
    ∧ (win0_2.index t 0 = 0 ∧ win0_2.index t 1 = 0) ∧ win0_3.index t 0 = t.val ∧ win0_3.index t 1 = 0) t

/-- Row `r` of block `t` lies in the array. -/
theorem row_lt (t : Fin cfg0.N) (r : Fin 2048) : t.val * 2048 + r.val < 16384 := by
  have h : t.val < 8 := t.isLt
  have := r.isLt
  omega

/-- The row of the result that row `r` of block `t` is. -/
def row (t : Fin cfg0.N) (r : Fin 2048) : Fin 16384 := ⟨t.val * 2048 + r.val, row_lt t r⟩

/-- Row `r` of the times' block at point `t` is row `2048·t + r` of the times. -/
theorem emb0 (t : Fin cfg0.N) (j : S2048x1.Idx) : ((cfg0.win 0).blk t).view.emb j = ix2 (row t (j 0)) (j 1) := by
  obtain ⟨⟨e0, e1⟩, -⟩ := index_eq t
  funext a; apply Fin.ext
  match a with
  | ⟨0, _⟩ => show win0_0.index t (0 : Fin 2) * 2048 + 1 * (j 0).val = t.val * 2048 + (j 0).val; omega
  | ⟨1, _⟩ => show win0_0.index t (1 : Fin 2) * 1 + 1 * (j 1).val = (j 1).val; omega

/-- The weights' block is the weights. -/
theorem emb1 (t : Fin cfg0.N) (j : S1x128.Idx) : ((cfg0.win 1).blk t).view.emb j = j := by
  obtain ⟨-, ⟨e0, e1⟩, -⟩ := index_eq t
  funext a; apply Fin.ext
  match a with
  | ⟨0, _⟩ => show win0_1.index t (0 : Fin 2) * 1 + 1 * (j 0).val = (j 0).val; omega
  | ⟨1, _⟩ => show win0_1.index t (1 : Fin 2) * 128 + 1 * (j 1).val = (j 1).val; omega

/-- The biases' block is the biases. -/
theorem emb2 (t : Fin cfg0.N) (j : S1x128.Idx) : ((cfg0.win 2).blk t).view.emb j = j := by
  obtain ⟨-, -, ⟨e0, e1⟩, -⟩ := index_eq t
  funext a; apply Fin.ext
  match a with
  | ⟨0, _⟩ => show win0_2.index t (0 : Fin 2) * 1 + 1 * (j 0).val = (j 0).val; omega
  | ⟨1, _⟩ => show win0_2.index t (1 : Fin 2) * 128 + 1 * (j 1).val = (j 1).val; omega

/-- Row `r` of the result's block at point `t` is row `2048·t + r` of the result. -/
theorem emb3 (t : Fin cfg0.N) (j : S2048x128.Idx) : ((cfg0.win 3).blk t).view.emb j = ix2 (row t (j 0)) (j 1) := by
  obtain ⟨-, -, -, e0, e1⟩ := index_eq t
  funext a; apply Fin.ext
  match a with
  | ⟨0, _⟩ => show win0_3.index t (0 : Fin 2) * 2048 + 1 * (j 0).val = t.val * 2048 + (j 0).val; omega
  | ⟨1, _⟩ => show win0_3.index t (1 : Fin 2) * 128 + 1 * (j 1).val = (j 1).val; omega

/-- The times' block at point `t`, read at a row. -/
theorem iblk0_apply (c : Dev nD) (t : Fin cfg0.N) (j : S2048x1.Idx) :
    iblk m c 0 t j = V m c main_v0 (ix2 (row t (j 0)) (j 1)) := by
  show V m c main_v0 (((cfg0.win 0).blk t).view.emb j) = _; rw [emb0]; rfl

/-- The weights' block, whole. -/
theorem iblk1_eq (c : Dev nD) (t : Fin cfg0.N) : iblk m c 1 t = V m c main_v1 := by
  funext j; show V m c main_v1 (((cfg0.win 1).blk t).view.emb j) = V m c main_v1 j; rw [emb1]

/-- The biases' block, whole. -/
theorem iblk2_eq (c : Dev nD) (t : Fin cfg0.N) : iblk m c 2 t = V m c main_v2 := by
  funext j; show V m c main_v2 (((cfg0.win 2).blk t).view.emb j) = V m c main_v2 j; rw [emb2]

/-- Cutting block `t` out of the staging buffer `X` of an array `Y` is reading `Y` through the block, when `X` at each
    index is `Y` at the row that the block's row is. -/
theorem cut3_eq (t : Fin cfg0.N) (X : Vec Ideal S2048x128 .f32) (Y : Vec Ideal S16384x128 .f32)
    (h : ∀ (r : Fin 2048) (l : Fin 128), X (ix2 r l) = Y (ix2 (row t r) l)) :
    (cfg0.win 3).cut (grid0.coords t) X = ((cfg0.win 3).blk t).view.read (Elt Ideal) Y := by
  funext j
  show X j = Y (((cfg0.win 3).blk t).view.emb j)
  rw [emb3]
  exact (congrArg X (eq_ix2 (n0 := 2048) (n1 := 128) j)).trans (h (j 0) (j 1))

/-- Point `t` writes back block `t` of the whole result. -/
theorem flushed_eq (c : Dev nD) (t : Fin cfg0.N) :
    (dats m 0 c).flushed 3 t = ((cfg0.win 3).blk t).view.read (Elt Ideal) (G m c) := by
  rw [Value.flushed3, out_eq]
  refine cut3_eq t _ (G m c) fun r l => ?_
  rw [pay_apply, iblk0_apply, iblk1_eq, iblk2_eq]
  exact congrArg Ideal.cos (by
    rw [weights_apply, biases_apply]
    exact congrArg (fun x => lin x _ _) (times_apply m c (row t r)))

/-- Every row of the result is a row of some point's block. -/
theorem exists_row (n : Fin 16384) : ∃ (t : Fin cfg0.N) (r : Fin 2048), row t r = n :=
  ⟨⟨n.val / 2048, (Nat.div_lt_iff_lt_mul (by decide)).mpr n.isLt⟩, ⟨n.val % 2048, Nat.mod_lt _ (by decide)⟩,
    Fin.ext (Nat.div_add_mod' n.val 2048)⟩

/-- The blocks of the eight points cover the result. -/
theorem covered (i : S16384x128.Idx) :
    ∃ t : Fin cfg0.N, (cfg0.win 3).flush t = true ∧ i ∈ ((cfg0.win 3).blk t).view.set := by
  obtain ⟨t, r, h⟩ := exists_row (i 0)
  refine ⟨t, flush0_3 t, ?_⟩
  have hm := ((cfg0.win 3).blk t).view.emb_mem_set (ix2 r (i 1) : S2048x128.Idx)
  rw [emb3] at hm
  have e : (ix2 (row t r) (i 1) : S16384x128.Idx) = i := by
    rw [h]; exact (eq_ix2 (n0 := 16384) (n1 := 128) i).symm
  rw [← e]
  exact hm

/-- The result array ends holding the whole result. -/
theorem final (c : Dev nD) : (dats m 0 c).arrAt 3 cfg0.N = G m c :=
  (dats m 0 c).arrAt_eq_of_cover 3 (G m c) (fun t _ => flushed_eq m c t) covered

/-- The run, read: the result array holds `G`, the arguments are unchanged. -/
theorem run : θ_run defs (onTc (τ := τ) (main (F := Ideal))) ⟨m, fun _ => 0, ρ⟩ fun r => ∀ c : Dev nD,
      r.2.mem ((c : Thread nD τ).loc main_v3) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (Value.run_blocks m ρ)

end Cert.ExactIdeal.Result
-- ==== Proof.RefValue.lean ====
module

public import proofs.«01_k».proof.Proof.Series
public import proofs.«01_k».proof.Proof.Gen.PolynomialIdeal.Run
public import proofs.«01_k».proof.Proof.Gen.ReferenceIdeal.Run

/-! What the two references compute, read at a row and a feature. -/

@[expose] public section

noncomputable section

open Idealize.ShloMosaic Idealize.ShloMosaic.TcCoe Idealize.SL.Sem

namespace Cert.PolynomialIdeal.Result

open Cert.PolynomialIdeal Cert.PolynomialIdeal.Gen Cert.Series

/-- The linear layer: the column of times times the row of weights, plus the biases in every row. -/
abbrev linear (T : FVec Ideal S16384 .f32) (W : FVec Ideal S128x1 .f32) (B : FVec Ideal S128 .f32) : FVec Ideal S16384x128 .f32 :=
  addf (Host.dotGeneral dot_S16384x1_S1x128_S16384x128_1_0_0_1_n_n none (shapeCast _ T shapeCasts_S16384_S16384x1)
      (transpose S1x128 [1, 0] W transposes_S128x1_S1x128_1_0))
    (broadcastInDim S16384x128 ![0, 1] bcast_S1x128_S16384x128_0_1 (broadcastInDim S1x128 ![1] bcast_S128_S1x128_1 B))

/-- The linear layer at row `n` and feature `l`. -/
theorem linear_apply (T : FVec Ideal S16384 .f32) (W : FVec Ideal S128x1 .f32) (B : FVec Ideal S128 .f32) (n : Fin 16384)
    (l : Fin 128) : linear T W B (ix2 n l) = lin (T (ix1 n)) (W (ix2 l 0)) (B (ix1 l)) := by
  unfold linear
  pointwise
  simp only [Finset.univ_unique, Finset.sum_singleton, lin]

/-- A literal in every place of the result's shape. -/
abbrev splat (b : BitVec 32) : FVec Ideal S16384x128 .f32 :=
  broadcastInDim S16384x128 ![] bcast_S_S16384x128 (constant S_ .f32 b)

/-- The polynomial of the square of a whole array, as the reference computes it: two of the coefficients subtracted. -/
theorem series_apply (L : FVec Ideal S16384x128 .f32) (j : S16384x128.Idx) :
    addf (mulf (subf (mulf (addf (mulf (subf (mulf (splat 0x37BB29F5#32) (mulf L L)) (splat 0x3AB4FC8C#32)) (mulf L L))
      (splat 0x3D2A9F79#32)) (mulf L L)) (splat 0x3EFFFF5B#32)) (mulf L L)) (splat 0x3F7FFFFA#32) j = poly (L j) := by
  unfold splat
  pointwise
  simp only [sub_coef1, sub_coef3, poly]

end Cert.PolynomialIdeal.Result

namespace Cert.ReferenceIdeal.Result

open Cert.ReferenceIdeal Cert.ReferenceIdeal.Gen Cert.Series

/-- The reference at row `n` and feature `l`: the cosine of the linear layer there. -/
theorem cos_apply (T : FVec Ideal S16384 .f32) (W : FVec Ideal S128x1 .f32) (B : FVec Ideal S128 .f32) (n : Fin 16384)
    (l : Fin 128) :
    Host.cos (addf (Host.dotGeneral dot_S16384x1_S1x128_S16384x128_1_0_0_1_n_n none (shapeCast _ T shapeCasts_S16384_S16384x1)
        (transpose S1x128 [1, 0] W transposes_S128x1_S1x128_1_0))
      (broadcastInDim S16384x128 ![0, 1] bcast_S1x128_S16384x128_0_1 (broadcastInDim S1x128 ![1] bcast_S128_S1x128_1 B))) (ix2 n l)
      = Ideal.cos (lin (T (ix1 n)) (W (ix2 l 0)) (B (ix1 l))) := by
  pointwise
  simp only [Finset.univ_unique, Finset.sum_singleton, lin]

end Cert.ReferenceIdeal.Result
-- ==== Proof.CosPoly.lean ====
module

public import Idealize.ShloMosaic.PureOps.Ideal

/-! The real analysis of this certificate: on `|x| ≤ 2` the polynomial of degree four in `x²`, with the coefficients that
the binary32 literals stand for, is within `1.5e-6` of the cosine. The cosine is first replaced by its Taylor polynomial
of degree sixteen (`cos_taylor`); the difference of the two polynomials is then written in Bernstein's basis on the two
halves of `[0, 4]`, where it is bounded by its largest coefficient (`bernstein_bound`). -/

@[expose] public section

noncomputable section

namespace Cert.CosPoly

/-- The polynomial in `u`, its coefficients the exact values of the binary32 literals. -/
def horner (u : ℝ) : ℝ :=
  (((12265973 / 2 ^ 39 * u + -(2965283 / 2 ^ 31)) * u + 11181945 / 2 ^ 28) * u + -(16777051 / 2 ^ 25)) * u + 8388605 / 2 ^ 23

/-- The cosine's Taylor polynomial of degree sixteen, as a polynomial in the square `u` of its argument. -/
def taylor (u : ℝ) : ℝ :=
  1 - u / 2 + u ^ 2 / 24 - u ^ 3 / 720 + u ^ 4 / 40320 - u ^ 5 / 3628800 + u ^ 6 / 479001600 - u ^ 7 / 87178291200
    + u ^ 8 / 20922789888000

/-- The real part of the exponential series of `x·i` up to the power seventeen is the cosine's Taylor polynomial. -/
theorem exp_series_re (x : ℝ) :
    (∑ k ∈ Finset.range 18, ((x : ℂ) * Complex.I) ^ k / (k.factorial : ℂ)).re = taylor (x ^ 2) := by
  have h : (∑ k ∈ Finset.range 18, ((x : ℂ) * Complex.I) ^ k / (k.factorial : ℂ))
      = ((taylor (x ^ 2) : ℝ) : ℂ)
        + ((x - x ^ 3 / 6 + x ^ 5 / 120 - x ^ 7 / 5040 + x ^ 9 / 362880 - x ^ 11 / 39916800 + x ^ 13 / 6227020800
            - x ^ 15 / 1307674368000 + x ^ 17 / 355687428096000 : ℝ) : ℂ) * Complex.I := by
    have hI : ∀ n : ℕ, Complex.I ^ (n + 2) = -Complex.I ^ n := fun n => by rw [pow_add, Complex.I_sq]; ring
    simp only [Finset.sum_range_succ, Finset.sum_range_zero, mul_pow, hI, Nat.factorial, taylor, pow_zero, pow_one]
    push_cast
    ring
  rw [h, Complex.add_re, Complex.re_ofReal_mul, Complex.ofReal_re, Complex.I_re, mul_zero, add_zero]

/-- The Taylor polynomial of degree sixteen is within `10⁻¹⁰` of the cosine on `|x| ≤ 2`. -/
theorem cos_taylor (x : ℝ) (hx : |x| ≤ 2) : |Real.cos x - taylor (x ^ 2)| ≤ 1 / 10 ^ 10 := by
  have hn : ‖(x : ℂ) * Complex.I‖ = |x| := by simp
  have h := Complex.exp_bound' (x := (x : ℂ) * Complex.I) (n := 18) (by
    rw [hn, div_le_iff₀ (by positivity)]; norm_num; linarith)
  rw [hn] at h
  have hre := (Complex.abs_re_le_norm _).trans h
  rw [Complex.sub_re, exp_series_re, Complex.exp_ofReal_mul_I_re] at hre
  refine hre.trans ?_
  have hp : |x| ^ 18 ≤ 2 ^ 18 := pow_le_pow_left₀ (abs_nonneg x) hx 18
  have hf : ((Nat.factorial 18 : ℕ) : ℝ) = 6402373705728000 := by norm_num [Nat.factorial]
  rw [hf]
  linarith

/-- A polynomial of degree eight given by its Bernstein coefficients on an interval of length two, at a point `s` above
    the left end and `t` below the right end, is bounded by a bound of the coefficients. -/
theorem bernstein_bound (e s t c0 c1 c2 c3 c4 c5 c6 c7 c8 : ℝ) (hs : 0 ≤ s) (ht : 0 ≤ t) (hst : s + t = 2)
    (h0 : |c0| ≤ e) (h1 : |c1| ≤ e) (h2 : |c2| ≤ e) (h3 : |c3| ≤ e) (h4 : |c4| ≤ e) (h5 : |c5| ≤ e) (h6 : |c6| ≤ e)
    (h7 : |c7| ≤ e) (h8 : |c8| ≤ e) :
    |(c0 * t ^ 8 + c1 * (8 * s * t ^ 7) + c2 * (28 * s ^ 2 * t ^ 6) + c3 * (56 * s ^ 3 * t ^ 5) + c4 * (70 * s ^ 4 * t ^ 4)
        + c5 * (56 * s ^ 5 * t ^ 3) + c6 * (28 * s ^ 6 * t ^ 2) + c7 * (8 * s ^ 7 * t) + c8 * s ^ 8) / 256| ≤ e := by
  have term : ∀ c p : ℝ, |c| ≤ e → 0 ≤ p → -(e * p) ≤ c * p ∧ c * p ≤ e * p := fun c p hc hp =>
    ⟨by nlinarith [(abs_le.mp hc).1], by nlinarith [(abs_le.mp hc).2]⟩
  have hsum : t ^ 8 + 8 * s * t ^ 7 + 28 * s ^ 2 * t ^ 6 + 56 * s ^ 3 * t ^ 5 + 70 * s ^ 4 * t ^ 4 + 56 * s ^ 5 * t ^ 3
      + 28 * s ^ 6 * t ^ 2 + 8 * s ^ 7 * t + s ^ 8 = 256 := by
    have : (s + t) ^ 8 = 256 := by rw [hst]; norm_num
    rw [← this]; ring
  have k0 := term c0 (t ^ 8) h0 (by positivity)
  have k1 := term c1 (8 * s * t ^ 7) h1 (by positivity)
  have k2 := term c2 (28 * s ^ 2 * t ^ 6) h2 (by positivity)
  have k3 := term c3 (56 * s ^ 3 * t ^ 5) h3 (by positivity)
  have k4 := term c4 (70 * s ^ 4 * t ^ 4) h4 (by positivity)
  have k5 := term c5 (56 * s ^ 5 * t ^ 3) h5 (by positivity)
  have k6 := term c6 (28 * s ^ 6 * t ^ 2) h6 (by positivity)
  have k7 := term c7 (8 * s ^ 7 * t) h7 (by positivity)
  have k8 := term c8 (s ^ 8) h8 (by positivity)
  have hE : e * (t ^ 8) + e * (8 * s * t ^ 7) + e * (28 * s ^ 2 * t ^ 6) + e * (56 * s ^ 3 * t ^ 5) + e * (70 * s ^ 4 * t ^ 4)
      + e * (56 * s ^ 5 * t ^ 3) + e * (28 * s ^ 6 * t ^ 2) + e * (8 * s ^ 7 * t) + e * (s ^ 8) = e * 256 := by
    rw [← hsum]; ring
  rw [abs_le, le_div_iff₀ (by norm_num), div_le_iff₀ (by norm_num)]
  constructor
  · linarith [k0.1, k1.1, k2.1, k3.1, k4.1, k5.1, k6.1, k7.1, k8.1]
  · linarith [k0.2, k1.2, k2.2, k3.2, k4.2, k5.2, k6.2, k7.2, k8.2]

/-- On the left half, `0 ≤ u ≤ 2`, the polynomial is within `1.477e-6` of the Taylor polynomial. -/
theorem horner_taylor_left (u : ℝ) (h0 : 0 ≤ u) (h2 : u ≤ 2) : |horner u - taylor u| ≤ 1477 / 10 ^ 9 := by
  have h := bernstein_bound (1477 / 10 ^ 9) u (2 - u) (-3 / 8388608) (117 / 134217728) (3247 / 5637144576)
    (-62047 / 676457349120) (-414820361 / 757632231014400) (-4221550421 / 6818690079129600)
    (-88470842527 / 225016772611276800) (-196629310391 / 2925218043946598400) (608294774177 / 3134162189942784000)
    h0 (by linarith) (by ring)
    (by rw [abs_le]; norm_num) (by rw [abs_le]; norm_num) (by rw [abs_le]; norm_num) (by rw [abs_le]; norm_num)
    (by rw [abs_le]; norm_num) (by rw [abs_le]; norm_num) (by rw [abs_le]; norm_num) (by rw [abs_le]; norm_num)
    (by rw [abs_le]; norm_num)
  refine le_of_eq_of_le (congrArg abs ?_) h
  unfold horner taylor
  ring

/-- On the right half, `2 ≤ u ≤ 4`, the polynomial is within `1.477e-6` of the Taylor polynomial. -/
theorem horner_taylor_right (u : ℝ) (h2 : 2 ≤ u) (h4 : u ≤ 4) : |horner u - taylor u| ≤ 1477 / 10 ^ 9 := by
  have h := bernstein_bound (1477 / 10 ^ 9) (u - 2) (4 - u) (608294774177 / 3134162189942784000)
    (1816517575711 / 3988933696290816000) (2200803975739 / 3375251589169152000) (27177081780749 / 43878270659198976000)
    (9897649842733 / 43878270659198976000) (-966608162857 / 1994466848145408000) (-12622985508257 / 10969567664799744000)
    (-753204745421 / 783540547485696000) (2025085026599 / 1371195958099968000)
    (by linarith) (by linarith) (by ring)
    (by rw [abs_le]; norm_num) (by rw [abs_le]; norm_num) (by rw [abs_le]; norm_num) (by rw [abs_le]; norm_num)
    (by rw [abs_le]; norm_num) (by rw [abs_le]; norm_num) (by rw [abs_le]; norm_num) (by rw [abs_le]; norm_num)
    (by rw [abs_le]; norm_num)
  refine le_of_eq_of_le (congrArg abs ?_) h
  unfold horner taylor
  ring

/-- On `|x| ≤ 2` the polynomial in `x²` is within `1.4772e-6` of the cosine of `x`. -/
theorem horner_cos (x : ℝ) (hx : |x| ≤ 2) : |horner (x ^ 2) - Real.cos x| ≤ 14772 / 10 ^ 10 := by
  have hu : x ^ 2 ≤ 4 := by
    rw [← sq_abs]; nlinarith [abs_nonneg x]
  have hq : |horner (x ^ 2) - taylor (x ^ 2)| ≤ 1477 / 10 ^ 9 := by
    rcases le_total (x ^ 2) 2 with h | h
    · exact horner_taylor_left _ (sq_nonneg x) h
    · exact horner_taylor_right _ h hu
  have ht := cos_taylor x hx
  rw [abs_sub_comm] at ht
  calc |horner (x ^ 2) - Real.cos x|
      = |(horner (x ^ 2) - taylor (x ^ 2)) + (taylor (x ^ 2) - Real.cos x)| := by congr 1; ring
    _ ≤ |horner (x ^ 2) - taylor (x ^ 2)| + |taylor (x ^ 2) - Real.cos x| := abs_add_le _ _
    _ ≤ 14772 / 10 ^ 10 := by linarith

end Cert.CosPoly
-- ==== Proof.Near.lean ====
module

public import proofs.«01_k».proof.Proof.CosPoly
public import proofs.«01_k».proof.Proof.Series
public import proofs.«01_k».proof.Proof.Gen.Pre_in_range
public import proofs.«01_k».proof.Proof.Gen.Post_near_reference

/-! The polynomial is near the cosine where the arguments are in range: the precondition and the postcondition read at an
index, and the real bound carried to the extended reals. -/

@[expose] public section

noncomputable section

open Idealize.ShloMosaic

namespace Cert.Near

open Cert.Series

/-- An extended real between two reals is a real between them. -/
theorem exists_real {x : EReal} {a b : ℝ} (ha : (a : EReal) ≤ x) (hb : x ≤ (b : EReal)) : ∃ r : ℝ, x = r ∧ a ≤ r ∧ r ≤ b := by
  induction x using EReal.rec with
  | bot => exact absurd ha (by simp)
  | top => exact absurd hb (by simp)
  | coe r => exact ⟨r, rfl, EReal.coe_le_coe_iff.mp ha, EReal.coe_le_coe_iff.mp hb⟩

/-- On a real the polynomial is the real polynomial of the square. -/
theorem poly_coe (x : ℝ) : poly (x : EReal) = ((CosPoly.horner (x ^ 2) : ℝ) : EReal) := by
  unfold poly CosPoly.horner
  rw [coef4, coef3, coef2, coef1, coef0]
  simp only [← EReal.coe_mul, ← EReal.coe_add]
  congr 1
  ring

/-- With a time between zero and one and a weight and a bias between minus one and one, the polynomial of the linear form
    is within the stated bound of its cosine. -/
theorem poly_near_cos {t w b : EReal} (ht0 : ((0 : ℝ) : EReal) ≤ t) (ht1 : t ≤ ((1 : ℝ) : EReal))
    (hw0 : ((-1 : ℝ) : EReal) ≤ w) (hw1 : w ≤ ((1 : ℝ) : EReal)) (hb0 : ((-1 : ℝ) : EReal) ≤ b) (hb1 : b ≤ ((1 : ℝ) : EReal)) :
    max (poly (lin t w b) - Ideal.cos (lin t w b)) (-(poly (lin t w b) - Ideal.cos (lin t w b)))
      ≤ Ideal.ofBits .f32 0x35C9539C#32 := by
  obtain ⟨t, rfl, t0, t1⟩ := exists_real ht0 ht1
  obtain ⟨w, rfl, w0, w1⟩ := exists_real hw0 hw1
  obtain ⟨b, rfl, b0, b1⟩ := exists_real hb0 hb1
  have hl : lin (t : EReal) w b = ((t * w + b : ℝ) : EReal) := by
    unfold lin; rw [← EReal.coe_mul, ← EReal.coe_add]
  have hx : |t * w + b| ≤ 2 := by
    rw [abs_le]; constructor <;> nlinarith
  have h := abs_le.mp (CosPoly.horner_cos (t * w + b) hx)
  rw [hl, poly_coe, Ideal.cos_coe, bound, ← EReal.coe_sub, ← EReal.coe_neg, max_le_iff, EReal.coe_le_coe_iff, EReal.coe_le_coe_iff]
  constructor <;> [linarith [h.1, h.2]; linarith [h.1, h.2]]

/-- Two truth bits whose conjunction is one: both propositions hold. -/
theorem and_of_bits {p q : Prop} [Decidable p] [Decidable q]
    (h : IntOp.andi (BitVec.ofBool (decide p)) (BitVec.ofBool (decide q)) = 1#1) : p ∧ q := by
  by_cases hp : p <;> by_cases hq : q <;> simp [hp, hq, IntOp.andi] at h ⊢

section Range

open Cert.Pre_in_range Cert.Pre_in_range.Gen

variable (i0 i1 : IVec S16384 32) (T : FVec Ideal S16384 .f32) (W : FVec Ideal S128x1 .f32) (B : FVec Ideal S128 .f32)

/-- The times in range, read at a row. -/
theorem times_range (h : (Pre_in_range.fn (F := Ideal) i0 i1 T W B).1 = fun _ => 1#1) (n : Fin 16384) :
    ((0 : ℝ) : EReal) ≤ T (ix1 n) ∧ T (ix1 n) ≤ ((1 : ℝ) : EReal) := by
  have h := congrFun h (ix1 n)
  unfold Pre_in_range.fn at h
  pointwise at h
  have h := and_of_bits h
  rwa [EReal.coe_zero, EReal.coe_one]

/-- The weights in range, read at a feature. -/
theorem weights_range (h : (Pre_in_range.fn (F := Ideal) i0 i1 T W B).2.1 = fun _ => 1#1) (l : Fin 128) :
    ((-1 : ℝ) : EReal) ≤ W (ix2 l 0) ∧ W (ix2 l 0) ≤ ((1 : ℝ) : EReal) := by
  have h := congrFun h (ix2 l 0)
  unfold Pre_in_range.fn at h
  pointwise at h
  have h := and_of_bits h
  rwa [minus_one, ← EReal.coe_one] at h

/-- The biases in range, read at a feature. -/
theorem biases_range (h : (Pre_in_range.fn (F := Ideal) i0 i1 T W B).2.2 = fun _ => 1#1) (l : Fin 128) :
    ((-1 : ℝ) : EReal) ≤ B (ix1 l) ∧ B (ix1 l) ≤ ((1 : ℝ) : EReal) := by
  have h := congrFun h (ix1 l)
  unfold Pre_in_range.fn at h
  pointwise at h
  have h := and_of_bits h
  rwa [minus_one, ← EReal.coe_one] at h

end Range

section Post

open Cert.Post_near_reference Cert.Post_near_reference.Gen

/-- The postcondition of a result that is near the cosine of the linear form at every row and feature. -/
theorem post_of (i0 i1 : IVec S16384 32) (T : FVec Ideal S16384 .f32) (W : FVec Ideal S128x1 .f32) (B : FVec Ideal S128 .f32)
    (O : FVec Ideal S16384x128 .f32)
    (h : ∀ (n : Fin 16384) (l : Fin 128),
      max (O (ix2 n l) - Ideal.cos (lin (T (ix1 n)) (W (ix2 l 0)) (B (ix1 l))))
        (-(O (ix2 n l) - Ideal.cos (lin (T (ix1 n)) (W (ix2 l 0)) (B (ix1 l))))) ≤ Ideal.ofBits .f32 0x35C9539C#32) :
    Post_near_reference.fn (F := Ideal) i0 i1 T W B O = fun _ => 1#1 := by
  funext j
  obtain ⟨n, l, rfl⟩ : ∃ (n : Fin 16384) (l : Fin 128), j = ix2 n l := ⟨j 0, j 1, eq_ix2 (n0 := 16384) (n1 := 128) j⟩
  unfold Post_near_reference.fn
  pointwise
  have h := h n l
  simp only [Finset.univ_unique, Finset.sum_singleton, lin, Ideal.absf_def] at h ⊢
  rw [decide_eq_true h]
  rfl

end Post

end Cert.Near
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.PolynomialIdeal
public import proofs.«01_k».proof.Proof.Gen.Exact
public import proofs.«01_k».proof.Proof.Gen.Exact.Skeleton
public import proofs.«01_k».proof.Proof.Gen.Exact.Launch
public import proofs.«01_k».proof.Proof.Gen.Exact.Points
public import proofs.«01_k».proof.Proof.Gen.Exact.Frame
public import proofs.«01_k».proof.Proof.Gen.ExactIdeal
public import proofs.«01_k».proof.Proof.Gen.ExactIdeal.Skeleton
public import proofs.«01_k».proof.Proof.Gen.ExactIdeal.Launch
public import proofs.«01_k».proof.Proof.Gen.ExactIdeal.Points
public import proofs.«01_k».proof.Proof.Gen.ExactIdeal.Frame
public import proofs.«01_k».proof.Proof.Gen.ReferenceIdeal
public import proofs.«01_k».proof.Proof.Gen.Pre_in_range
public import proofs.«01_k».proof.Proof.Gen.Post_near_reference
public import proofs.«01_k».proof.Proof.Gen.KernelIdeal.Value
public import proofs.«01_k».proof.Proof.Gen.ExactIdeal.Value
public import proofs.«01_k».proof.Proof.Gen.PolynomialIdeal.Run
public import proofs.«01_k».proof.Proof.Gen.ReferenceIdeal.Run
public import proofs.«01_k».proof.Proof.KernelValue
public import proofs.«01_k».proof.Proof.ExactValue
public import proofs.«01_k».proof.Proof.RefValue
public import proofs.«01_k».proof.Proof.Near
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The polynomial reference runs, leaves its arguments, and ends with every semaphore counter at zero. -/
theorem frame_polynomial : quiescent_PolynomialIdeal (hPolynomialIdeal := Cert.PolynomialIdeal.Gen.facts) := fun m ρ _ =>
  (θ_run (Cert.PolynomialIdeal.defs (F := Ideal)) _ _).mono (fun r h => ⟨fun c => (h c).2,
    Idealize.ShloMosaic.sem_eq_zero_of_no_sems (by decide) r.2⟩) (Cert.PolynomialIdeal.Value.run (F := Ideal) m ρ)

/-- The reference runs, leaves its arguments, and ends with every semaphore counter at zero. -/
theorem frame_reference : quiescent_ReferenceIdeal (hReferenceIdeal := Cert.ReferenceIdeal.Gen.facts) := fun m ρ _ =>
  (θ_run (Cert.ReferenceIdeal.defs (F := Ideal)) _ _).mono (fun r h => ⟨fun c => (h c).2,
    Idealize.ShloMosaic.sem_eq_zero_of_no_sems (by decide) r.2⟩) (Cert.ReferenceIdeal.Value.run (F := Ideal) m ρ)

/-- The optimised kernel computes the polynomial reference, at every argument. -/
theorem kernel_polynomial : algebraic_KernelIdeal_PolynomialIdeal (hKernelIdeal := Cert.KernelIdeal.Gen.facts)
    (hPolynomialIdeal := Cert.PolynomialIdeal.Gen.facts) := fun m g m' g' _ hag => by
  refine ⟨fun c => Cert.KernelIdeal.Result.G m c, Cert.KernelIdeal.Result.run m g, ?_⟩
  refine (θ_run (Cert.PolynomialIdeal.defs (F := Ideal)) _ _).mono (fun r h c => ⟨(h c).1.trans ?_, (h c).2⟩)
    (Cert.PolynomialIdeal.Value.run (F := Ideal) m' g')
  obtain ⟨-, -, h2, h3, h4⟩ := hag c
  rw [h2, h3, h4]
  funext j
  obtain ⟨n, l, rfl⟩ : ∃ (n : Fin 16384) (l : Fin 128), j = ix2 n l := ⟨j 0, j 1, eq_ix2 (n0 := 16384) (n1 := 128) j⟩
  exact (Cert.PolynomialIdeal.Result.series_apply _ _).trans (congrArg Cert.Series.poly
    (Cert.PolynomialIdeal.Result.linear_apply _ _ _ n l))

/-- The plain kernel computes the reference, at every argument. -/
theorem exact_reference : algebraic_ExactIdeal_ReferenceIdeal (hExactIdeal := Cert.ExactIdeal.Gen.facts)
    (hReferenceIdeal := Cert.ReferenceIdeal.Gen.facts) := fun m g m' g' _ hag => by
  refine ⟨fun c => Cert.ExactIdeal.Result.G m c, Cert.ExactIdeal.Result.run m g, ?_⟩
  refine (θ_run (Cert.ReferenceIdeal.defs (F := Ideal)) _ _).mono (fun r h c => ⟨(h c).1.trans ?_, (h c).2⟩)
    (Cert.ReferenceIdeal.Value.run (F := Ideal) m' g')
  obtain ⟨-, -, h2, h3, h4⟩ := hag c
  rw [h2, h3, h4]
  funext j
  obtain ⟨n, l, rfl⟩ : ∃ (n : Fin 16384) (l : Fin 128), j = ix2 n l := ⟨j 0, j 1, eq_ix2 (n0 := 16384) (n1 := 128) j⟩
  exact Cert.ReferenceIdeal.Result.cos_apply _ _ _ n l

/-- In range, the optimised kernel is within the stated bound of the reference's cosine at every row and feature. -/
theorem kernel_near : holds_KernelIdeal_near_reference_pre_in_range (hKernelIdeal := Cert.KernelIdeal.Gen.facts)
    (hPre_in_range := Cert.Pre_in_range.Gen.facts) (hPost_near_reference := Cert.Post_near_reference.Gen.facts) :=
  fun m g hpre => by
  refine (θ_run (Cert.KernelIdeal.defs (F := Ideal)) _ _).mono (fun r h c => ?_) (Cert.KernelIdeal.Result.run m g)
  obtain ⟨h0, a0, a1, a2, a3, a4⟩ := h c
  obtain ⟨p0, p1, p2⟩ := hpre c
  refine ⟨a0, a1, a2, a3, a4, ?_⟩
  refine (congrArg _ h0).trans (Cert.Near.post_of _ _ _ _ _ _ fun n l => ?_)
  exact Cert.Near.poly_near_cos (Cert.Near.times_range _ _ _ _ _ p0 n).1 (Cert.Near.times_range _ _ _ _ _ p0 n).2
    (Cert.Near.weights_range _ _ _ _ _ p1 l).1 (Cert.Near.weights_range _ _ _ _ _ p1 l).2
    (Cert.Near.biases_range _ _ _ _ _ p2 l).1 (Cert.Near.biases_range _ _ _ _ _ p2 l).2

/-- Everything this certificate claims. -/
theorem claim : Cert.Claim := ⟨Cert.Kernel.Gen.facts, Cert.KernelIdeal.Gen.facts, Cert.PolynomialIdeal.Gen.facts, Cert.Exact.Gen.facts,
  Cert.ExactIdeal.Gen.facts, Cert.ReferenceIdeal.Gen.facts, Cert.Pre_in_range.Gen.facts, Cert.Post_near_reference.Gen.facts,
  fun m ρ _ => Cert.Kernel.Gen.frame m ρ, fun m ρ _ => Cert.KernelIdeal.Gen.frame m ρ, fun m ρ _ => Cert.KernelIdeal.Gen.frame m ρ,
  frame_polynomial, fun m ρ _ => Cert.Exact.Gen.frame m ρ, fun m ρ _ => Cert.ExactIdeal.Gen.frame m ρ, frame_reference,
  trivial, kernel_polynomial, kernel_near, trivial, exact_reference⟩

end Cert.Proof

end
